-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x18944 : Shape := ⟨3, ![1, 256, 18944]⟩
abbrev S67895296 : Shape := ⟨1, ![67895296]⟩
abbrev S33152 : Shape := ⟨1, ![33152]⟩
abbrev S256x18944 : Shape := ⟨2, ![256, 18944]⟩
abbrev S530432x128 : Shape := ⟨2, ![530432, 128]⟩
abbrev S33152x4 : Shape := ⟨2, ![33152, 4]⟩
abbrev S132608 : Shape := ⟨1, ![132608]⟩
abbrev S18944x7 : Shape := ⟨2, ![18944, 7]⟩
abbrev S256x3584 : Shape := ⟨2, ![256, 3584]⟩
abbrev S256x512 : Shape := ⟨2, ![256, 512]⟩
abbrev S14336x128 : Shape := ⟨2, ![14336, 128]⟩
abbrev S512x7 : Shape := ⟨2, ![512, 7]⟩
abbrev S3584x128 : Shape := ⟨2, ![3584, 128]⟩
abbrev S8x128 : Shape := ⟨2, ![8, 128]⟩
abbrev S32x1 : Shape := ⟨2, ![32, 1]⟩
abbrev S32x128 : Shape := ⟨2, ![32, 128]⟩
abbrev S32x512 : Shape := ⟨2, ![32, 512]⟩
abbrev S512x512 : Shape := ⟨2, ![512, 512]⟩

abbrev nBuf : Space → Nat
  | .hbm => 15
  | .vmem => 11
  | .smem => 0
  | _ => 0

abbrev bufTy : (tb : Table) → Fin (tcTables nBuf tb) → BufTy
  | .hbm, ⟨0, _⟩ => ⟨S1x256x18944, .bf16⟩
  | .hbm, ⟨1, _⟩ => ⟨S67895296, .i8⟩
  | .hbm, ⟨2, _⟩ => ⟨S33152, .f32⟩
  | .hbm, ⟨3, _⟩ => ⟨S33152, .f32⟩
  | .hbm, ⟨4, _⟩ => ⟨S256x18944, .bf16⟩
  | .hbm, ⟨5, _⟩ => ⟨S530432x128, .i8⟩
  | .hbm, ⟨6, _⟩ => ⟨S33152, .bf16⟩
  | .hbm, ⟨7, _⟩ => ⟨S33152x4, .bf16⟩
  | .hbm, ⟨8, _⟩ => ⟨S132608, .bf16⟩
  | .hbm, ⟨9, _⟩ => ⟨S18944x7, .bf16⟩
  | .hbm, ⟨10, _⟩ => ⟨S33152, .bf16⟩
  | .hbm, ⟨11, _⟩ => ⟨S33152x4, .bf16⟩
  | .hbm, ⟨12, _⟩ => ⟨S132608, .bf16⟩
  | .hbm, ⟨13, _⟩ => ⟨S18944x7, .bf16⟩
  | .hbm, ⟨14, _⟩ => ⟨S256x3584, .bf16⟩
  | .local _ .vmem, ⟨0, _⟩ => ⟨S256x512, .bf16⟩
  | .local _ .vmem, ⟨1, _⟩ => ⟨S256x512, .bf16⟩
  | .local _ .vmem, ⟨2, _⟩ => ⟨S14336x128, .i8⟩
  | .local _ .vmem, ⟨3, _⟩ => ⟨S14336x128, .i8⟩
  | .local _ .vmem, ⟨4, _⟩ => ⟨S512x7, .bf16⟩
  | .local _ .vmem, ⟨5, _⟩ => ⟨S512x7, .bf16⟩
  | .local _ .vmem, ⟨6, _⟩ => ⟨S512x7, .bf16⟩
  | .local _ .vmem, ⟨7, _⟩ => ⟨S512x7, .bf16⟩
  | .local _ .vmem, ⟨8, _⟩ => ⟨S256x3584, .bf16⟩
  | .local _ .vmem, ⟨9, _⟩ => ⟨S256x3584, .f32⟩
  | .local _ .vmem, ⟨10, _⟩ => ⟨S3584x128, .i32⟩
  | _, _ => ⟨S1x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![37], ![false]⟩

def k0_cond2 (i : grid0.Coords) : BitVec 1 :=
  let arg0 : BitVec 32 := BitVec.ofNat 32 (i 0).val
  let c36_i32 : BitVec 32 := 36#32
  let v8696 : BitVec 1 := Scalar.cmpi .eq arg0 c36_i32
  let v8697 : BitVec 32 := Scalar.extui v8696
  let c0_i32_3167 : BitVec 32 := 0#32
  let v8698 : BitVec 1 := Scalar.cmpi .ne v8697 c0_i32_3167
  v8698

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S14336x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x7 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x7 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1x256x18944 : Shape := ⟨3, ![1, 256, 18944]⟩
abbrev S67895296 : Shape := ⟨1, ![67895296]⟩
abbrev S33152 : Shape := ⟨1, ![33152]⟩
abbrev S256x18944 : Shape := ⟨2, ![256, 18944]⟩
abbrev S33152x2048 : Shape := ⟨2, ![33152, 2048]⟩
abbrev S33152x1 : Shape := ⟨2, ![33152, 1]⟩
abbrev S256x3584 : Shape := ⟨2, ![256, 3584]⟩
abbrev S18944x3584 : Shape := ⟨2, ![18944, 3584]⟩

abbrev nBuf : Space → Nat
  | .hbm => 9
  | .vmem => 5
  | .smem => 0
  | _ => 0

abbrev bufTy : (tb : Table) → Fin (tcTables nBuf tb) → BufTy
  | .hbm, ⟨0, _⟩ => ⟨S1x256x18944, .bf16⟩
  | .hbm, ⟨1, _⟩ => ⟨S67895296, .i8⟩
  | .hbm, ⟨2, _⟩ => ⟨S33152, .f32⟩
  | .hbm, ⟨3, _⟩ => ⟨S33152, .f32⟩
  | .hbm, ⟨4, _⟩ => ⟨S256x18944, .bf16⟩
  | .hbm, ⟨5, _⟩ => ⟨S33152x2048, .i8⟩
  | .hbm, ⟨6, _⟩ => ⟨S33152x1, .f32⟩
  | .hbm, ⟨7, _⟩ => ⟨S33152x1, .f32⟩
  | .hbm, ⟨8, _⟩ => ⟨S256x3584, .bf16⟩
  | .local _ .vmem, ⟨0, _⟩ => ⟨S256x18944, .bf16⟩
  | .local _ .vmem, ⟨1, _⟩ => ⟨S33152x2048, .i8⟩
  | .local _ .vmem, ⟨2, _⟩ => ⟨S33152x1, .f32⟩
  | .local _ .vmem, ⟨3, _⟩ => ⟨S33152x1, .f32⟩
  | .local _ .vmem, ⟨4, _⟩ => ⟨S256x3584, .bf16⟩
  | _, _ => ⟨S1x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x18944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S33152x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S33152x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S33152x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
/-
  The result both programs compute, over the extended reals, as one function of the four arguments (no program is
  mentioned here).

  The codes are one flat list, row after row of the `18944 × 3584` weights; the scales and the offsets are one per block
  of 2048 consecutive codes. The weight at row `K` and column `n` is its code times its block's scale plus its block's
  offset, and the result is the product of the `256 × 18944` input with the weights.

    `weight`, `term`, `product` — these, and
    `sum_steps`                 — the product as 37 partial sums of 512 terms.
-/
module

public import Idealize.ShloMosaic.Lib.Pointwise
public import Idealize.ShloMosaic.Lib.Pipeline.Value
public import Idealize.ShloMosaic.Lib.Pipeline.ValueKit.Acc

@[expose] public section

noncomputable section

namespace Cert.Spec

open Idealize.ShloMosaic hiding ix1 ix2 ix3
open Idealize.ShloMosaic.ValueIdx
open scoped BigOperators

/-- The arguments' and the result's shapes. -/
abbrev SX : Shape := ⟨3, ![1, 256, 18944]⟩
abbrev SQ : Shape := ⟨1, ![67895296]⟩
abbrev SC : Shape := ⟨1, ![33152]⟩
abbrev SR : Shape := ⟨2, ![256, 3584]⟩

variable (x : SX.Idx → EReal) (q : SQ.Idx → BitVec 8) (s o : SC.Idx → EReal)

/-- The weight at row `K` and column `n`. -/
def weight (K : Fin 18944) (n : Fin 3584) : EReal :=
  (FloatOps.uitofp (F := Ideal) .bf16 (q (ix1 (⟨3584 * K.val + n.val, by omega⟩ : Fin 67895296))) : EReal)
    * s (ix1 (⟨(3584 * K.val + n.val) / 2048, by omega⟩ : Fin 33152)) + o (ix1 (⟨(3584 * K.val + n.val) / 2048, by omega⟩ : Fin 33152))

/-- The product's term at contracted row `K` (zero past the last row). -/
def term (r : Fin 256) (n : Fin 3584) (K : Nat) : EReal :=
  if h : K < 18944 then x (ix3 (0 : Fin 1) r (⟨K, h⟩ : Fin 18944)) * weight q s o ⟨K, h⟩ n else 0

/-- The input times the weights. -/
def product (y : SR.Idx) : EReal :=
  ∑ K : Fin 18944, x (ix3 (0 : Fin 1) (⟨(y 0).val, (y 0).isLt⟩ : Fin 256) K) * weight q s o K (⟨(y 1).val, (y 1).isLt⟩ : Fin 3584)

/-- The product is the sum over 37 steps of the step's 512 terms. -/
theorem sum_steps (y : SR.Idx) :
    product x q s o y = ∑ t ∈ Finset.range 37, ∑ k : Fin 512,
      term x q s o (⟨(y 0).val, (y 0).isLt⟩ : Fin 256) (⟨(y 1).val, (y 1).isLt⟩ : Fin 3584) (t * 512 + k.val) := by
  have e : product x q s o y = ∑ K ∈ Finset.range (37 * 512),
      term x q s o (⟨(y 0).val, (y 0).isLt⟩ : Fin 256) (⟨(y 1).val, (y 1).isLt⟩ : Fin 3584) K := by
    rw [show 37 * 512 = 18944 from rfl, Finset.sum_range]
    unfold product
    refine Finset.sum_congr rfl fun K _ => ?_
    unfold term
    rw [dif_pos K.isLt]
  rw [e, Finset.sum_range_mul_split]
  exact Finset.sum_congr rfl fun t _ => Finset.sum_range _

end Cert.Spec

end
-- ==== Proof.Block.lean ====
/-
  The block of weights a chunk of the kernel builds, as one definition for every group and chunk, and its value
  at an index (no program is mentioned here).

  A GROUP is 32 consecutive rows of a chunk. The kernel reads its codes as four tiles of 8 × 128 words, tile `r`
  holding the rows congruent to `r` modulo 4; byte `q` of a word is the code of lane `l` of the chunk's column
  block `q`. Four rounds of masks, shifts and packs transpose the bytes, so that a word of result `q` holds byte
  `q` of the four tiles, tile 0 lowest; read as bytes, result `q` is then the 32 × 128 array of codes of column
  block `q`.

    `tword`       — one word of result `q` from the four tiles' words, and `tword_bit`, its bits;
    `group`       — the group's 32 × 512 weights, and `group_apply`, their value: byte `q` of the word, converted,
                    times the row's scale, plus the row's offset;
    `stackRows`   — sixteen groups stacked, and `stackRows_apply`.
-/
module

public import Idealize.ShloMosaic.Lib.Pointwise
public import Idealize.ShloMosaic.Lib.BitcastFour
public import Idealize.ShloMosaic.Lib.Pipeline.Value
public import Idealize.ShloMosaic.Lib.Tactic

@[expose] public section

noncomputable section

namespace Cert.Block

open Idealize.ShloMosaic hiding ix2
open Idealize.ShloMosaic.ValueIdx

variable {F : FTy → Type} [FloatOps F]

/-- A tile of words, a group's bytes, a group's row constants, a group's weights, a chunk's weights. -/
abbrev S8x128 : Shape := ⟨2, ![8, 128]⟩
abbrev S32x128 : Shape := ⟨2, ![32, 128]⟩
abbrev S32x1 : Shape := ⟨2, ![32, 1]⟩
abbrev S32x512 : Shape := ⟨2, ![32, 512]⟩
abbrev S512x512 : Shape := ⟨2, ![512, 512]⟩

/-! ## The byte transpose -/

/-- Bytes 0 and 2 of `u` and of `v`, interleaved. -/
def b8 (u v : IVec S8x128 32) : IVec S8x128 32 :=
  ori (andi u (broadcast S8x128 16711935#32)) (shli (andi v (broadcast S8x128 16711935#32)) (broadcast S8x128 8#32))

/-- The words shifted right by `k`. -/
def shr (k : BitVec 32) (u : IVec S8x128 32) : IVec S8x128 32 := shrui u (broadcast S8x128 k)

/-- Result `q` of the byte transpose of four tiles. -/
def tword (t0 t1 t2 t3 : IVec S8x128 32) (q : Fin 4) : IVec S8x128 32 :=
  match q with
  | 0 => packElementwiseI16 (b8 t0 t1) (b8 t2 t3)
  | 1 => packElementwiseI16 (b8 (shr 8#32 t0) (shr 8#32 t1)) (b8 (shr 8#32 t2) (shr 8#32 t3))
  | 2 => packElementwiseI16 (shr 16#32 (b8 t0 t1)) (shr 16#32 (b8 t2 t3))
  | 3 => packElementwiseI16 (shr 16#32 (b8 (shr 8#32 t0) (shr 8#32 t1))) (shr 16#32 (b8 (shr 8#32 t2) (shr 8#32 t3)))

/-- A bit of a pack of two words' low halves: the first word's below bit 16, the second's above. -/
theorem pack_bit (u v : IVec S8x128 32) (j : S8x128.Idx) (n : Nat) :
    (packElementwiseI16 u v j).getLsbD n = if n < 16 then (u j).getLsbD n else decide (n < 32) && (v j).getLsbD (n - 16) := by
  rw [packElementwiseI16_apply]
  have e := BitVec.getLsbD_append (x := (v j).setWidth 16) (y := (u j).setWidth 16) (i := n)
  rw [e, BitVec.getLsbD_setWidth, BitVec.getLsbD_setWidth]
  by_cases h : n < 16
  · simp [h]
  · have h2 : n - 16 < 16 ↔ n < 32 := by omega
    simp [h, h2]

/-- The mask's bits: those of bytes 0 and 2. -/
theorem mask_bit : ∀ n : Fin 32, (16711935#32 : BitVec 32).getLsbD n.val = decide (n.val / 8 % 2 = 0) := by decide

/-- A bit of `b8 u v`. -/
theorem b8_bit (u v : IVec S8x128 32) (j : S8x128.Idx) (n : Nat) (hn : n < 32) :
    (b8 u v j).getLsbD n = if n / 8 % 2 = 0 then (u j).getLsbD n else (v j).getLsbD (n - 8) := by
  have e : b8 u v j = (u j &&& 16711935#32) ||| ((v j &&& 16711935#32) <<< 8) := rfl
  rw [e, BitVec.getLsbD_or, BitVec.getLsbD_and, BitVec.getLsbD_shiftLeft, BitVec.getLsbD_and, mask_bit ⟨n, hn⟩,
    mask_bit ⟨n - 8, by omega⟩]
  by_cases h : n / 8 % 2 = 0
  · by_cases h8 : n < 8
    · simp [h, h8]
    · have h' : ¬ (n - 8) / 8 % 2 = 0 := by omega
      simp [h, h']
  · have h8 : ¬ n < 8 := by omega
    have h' : (n - 8) / 8 % 2 = 0 := by omega
    simp [h, h8, h', hn]

/-- A bit of the words shifted right. -/
theorem shr8_bit (u : IVec S8x128 32) (j : S8x128.Idx) (n : Nat) : (shr 8#32 u j).getLsbD n = (u j).getLsbD (8 + n) := by
  have e : shr 8#32 u j = u j >>> 8 := rfl
  rw [e, BitVec.getLsbD_ushiftRight]

theorem shr16_bit (u : IVec S8x128 32) (j : S8x128.Idx) (n : Nat) : (shr 16#32 u j).getLsbD n = (u j).getLsbD (16 + n) := by
  have e : shr 16#32 u j = u j >>> 16 := rfl
  rw [e, BitVec.getLsbD_ushiftRight]

/-- Bit `i` of byte `r` of result `q` is bit `i` of byte `q` of tile `r`. -/
theorem tword_bit (t : Fin 4 → IVec S8x128 32) (q r : Fin 4) (i : Nat) (hi : i < 8) (j : S8x128.Idx) :
    (tword (t 0) (t 1) (t 2) (t 3) q j).getLsbD (8 * r.val + i) = (t r j).getLsbD (8 * q.val + i) := by
  fin_cases q <;> fin_cases r <;> simp only [tword, pack_bit] <;>
    interval_cases i <;> simp [b8_bit, shr8_bit, shr16_bit, -BitVec.getLsbD_eq_getElem]

/-! ## A group's weights -/

/-- A column of 32 row constants, broadcast over 128 lanes. -/
def rowConst (s : FVec F S32x1 .bf16) : FVec F S32x128 .bf16 :=
  broadcastTo S32x128 (shapeCast S32x1 (shapeCast S32x1 s (by decide)) (by decide)) (by decide)

/-- The weights of column block `q` of a group: the codes converted, times the scales, plus the offsets. -/
def quarter (t0 t1 t2 t3 : IVec S8x128 32) (s o : FVec F S32x1 .bf16) (q : Fin 4) : FVec F S32x128 .bf16 :=
  addf (mulf (uitofp .bf16 (bitcast S32x128 8 (tword t0 t1 t2 t3 q) (by decide))) (rowConst s)) (rowConst o)

/-- A group's 32 × 512 weights: its four column blocks side by side. -/
def group (t0 t1 t2 t3 : IVec S8x128 32) (s o : FVec F S32x1 .bf16) : FVec F S32x512 .bf16 :=
  concatenate S32x512 1 [⟨S32x128, quarter t0 t1 t2 t3 s o 0⟩, ⟨S32x128, quarter t0 t1 t2 t3 s o 1⟩,
    ⟨S32x128, quarter t0 t1 t2 t3 s o 2⟩, ⟨S32x128, quarter t0 t1 t2 t3 s o 3⟩]
    (show Shape.Concatenates [S32x128, S32x128, S32x128, S32x128] S32x512 1 by decide)

/-- A byte of result `q`: at row `R` and lane `l`, byte `q` of the word at row `R / 4` of tile `R % 4`. -/
theorem byte_apply (t : Fin 4 → IVec S8x128 32) (q : Fin 4) (R : Fin 32) (l : Fin 128) (h : S8x128.Bitcasts 32 S32x128 8) :
    bitcast S32x128 8 (tword (t 0) (t 1) (t 2) (t 3) q) h (ix2 R l)
      = (t ⟨R.val % 4, Nat.mod_lt _ (by decide)⟩ (ix2 (⟨R.val / 4, by omega⟩ : Fin 8) l)).extractLsb' (8 * q.val) 8 := by
  apply BitVec.eq_of_getLsbD_eq
  intro i hi
  rw [bitcast_getLsbD _ h _ i hi (by decide)]
  have hrow : S32x128.row (ix2 R l) = R.val := rfl
  have e1 : (S32x128.row (ix2 R l) * 8 + i) / 32 = R.val / 4 := by rw [hrow]; omega
  have e2 : (S32x128.row (ix2 R l) * 8 + i) % 32 = 8 * (R.val % 4) + i := by rw [hrow]; omega
  have ej : h.srcIdx (ix2 R l) ((S32x128.row (ix2 R l) * 8 + i) / 32) (fun a ha =>
      (Nat.div_lt_iff_lt_mul (by decide)).2 (h.pos_lt (ix2 R l) i hi a ha)) = ix2 (⟨R.val / 4, by omega⟩ : Fin 8) l := by
    funext c
    match c with
    | ⟨0, _⟩ => exact Fin.ext ((h.srcIdx_row _ _ _ ⟨0, Nat.zero_lt_two⟩ rfl).trans e1)
    | ⟨1, _⟩ => exact Fin.ext (h.srcIdx_other _ _ _ ⟨1, Nat.one_lt_two⟩ (by show ¬ 1 + 2 = 2; omega))
  rw [ej, e2]
  have hb := tword_bit t q ⟨R.val % 4, Nat.mod_lt _ (by decide)⟩ i hi (ix2 (⟨R.val / 4, by omega⟩ : Fin 8) l)
  rw [hb, BitVec.getLsbD_extractLsb']
  simp [hi]

/-- A row constant at an index. -/
theorem rowConst_apply (s : FVec F S32x1 .bf16) (R : Fin 32) (l : Fin 128) :
    rowConst s (ix2 R l) = s (ix2 R (0 : Fin 1)) := by
  unfold rowConst
  rw [shapeCast_self, shapeCast_self]
  show s _ = s _
  congr 1
  funext a
  match a with
  | ⟨0, _⟩ => rfl
  | ⟨1, _⟩ => rfl

/-- A group's weights at row `R` and column `128 q + l`. -/
theorem group_apply (t : Fin 4 → IVec S8x128 32) (s o : FVec F S32x1 .bf16) (R : Fin 32) (j : Fin 512) :
    group (t 0) (t 1) (t 2) (t 3) s o (ix2 R j)
      = FloatOps.addf (FloatOps.mulf (FloatOps.uitofp .bf16
          ((t ⟨R.val % 4, Nat.mod_lt _ (by decide)⟩ (ix2 (⟨R.val / 4, by omega⟩ : Fin 8)
            (⟨j.val % 128, Nat.mod_lt _ (by decide)⟩ : Fin 128))).extractLsb' (8 * (j.val / 128)) 8))
          (s (ix2 R (0 : Fin 1)))) (o (ix2 R (0 : Fin 1))) := by
  have hc : Shape.Concatenates ((List.ofFn fun q : Fin 4 => (⟨S32x128, quarter (t 0) (t 1) (t 2) (t 3) s o q⟩ :
      (s : Shape) × (s.Idx → F .bf16))).map (·.1)) S32x512 1 := by
    show Shape.Concatenates [S32x128, S32x128, S32x128, S32x128] S32x512 1
    decide
  have e : group (t 0) (t 1) (t 2) (t 3) s o
      = concatenate S32x512 1 (List.ofFn fun q : Fin 4 => ⟨S32x128, quarter (t 0) (t 1) (t 2) (t 3) s o q⟩) hc := rfl
  have hq : j.val / 128 < 4 := by omega
  rw [e, concatenate_ofFn_apply 1 _ hc rfl 128 rfl (ix2 R j) ⟨j.val / 128, hq⟩ rfl
    (ix2 R (⟨j.val % 128, Nat.mod_lt _ (by decide)⟩ : Fin 128)) rfl (fun b hb => by
      match b with
      | ⟨0, _⟩ => rfl
      | ⟨1, _⟩ => exact absurd rfl hb)]
  show FloatOps.addf (FloatOps.mulf (FloatOps.uitofp .bf16 (bitcast S32x128 8 (tword (t 0) (t 1) (t 2) (t 3) _) _ _))
    (rowConst s _)) (rowConst o _) = _
  rw [byte_apply t, rowConst_apply, rowConst_apply]

/-! ## A chunk's weights -/

/-- Sixteen groups, one under another. -/
def stackRows (f : Fin 16 → FVec F S32x512 .bf16) : FVec F S512x512 .bf16 :=
  concatenate S512x512 0 [⟨S32x512, f 0⟩, ⟨S32x512, f 1⟩, ⟨S32x512, f 2⟩, ⟨S32x512, f 3⟩, ⟨S32x512, f 4⟩, ⟨S32x512, f 5⟩,
    ⟨S32x512, f 6⟩, ⟨S32x512, f 7⟩, ⟨S32x512, f 8⟩, ⟨S32x512, f 9⟩, ⟨S32x512, f 10⟩, ⟨S32x512, f 11⟩, ⟨S32x512, f 12⟩,
    ⟨S32x512, f 13⟩, ⟨S32x512, f 14⟩, ⟨S32x512, f 15⟩]
    (show Shape.Concatenates (List.replicate 16 S32x512) S512x512 0 by decide)

/-- Row `k` of the stack is row `k % 32` of group `k / 32`. -/
theorem stackRows_apply (f : Fin 16 → FVec F S32x512 .bf16) (k j : Fin 512) :
    stackRows f (ix2 k j) = f ⟨k.val / 32, by omega⟩ (ix2 (⟨k.val % 32, Nat.mod_lt _ (by decide)⟩ : Fin 32) j) := by
  have hc : Shape.Concatenates ((List.ofFn fun g : Fin 16 => (⟨S32x512, f g⟩ : (s : Shape) × (s.Idx → F .bf16))).map (·.1))
      S512x512 0 := by
    show Shape.Concatenates (List.replicate 16 S32x512) S512x512 0
    decide
  have e : stackRows f = concatenate S512x512 0 (List.ofFn fun g : Fin 16 => ⟨S32x512, f g⟩) hc := rfl
  rw [e, concatenate_ofFn_apply 0 _ hc rfl 32 rfl (ix2 k j) ⟨k.val / 32, by omega⟩ rfl
    (ix2 (⟨k.val % 32, Nat.mod_lt _ (by decide)⟩ : Fin 32) j) rfl (fun b hb => by
      match b with
      | ⟨0, _⟩ => exact absurd rfl hb
      | ⟨1, _⟩ => rfl)]

end Cert.Block

end
-- ==== Proof.KernelStep.lean ====
/-
  What one point of the kernel leaves in its accumulator and in its output block.

  A point stores the block of codes as words (four codes of a lane to a word), then builds seven chunks of 512 columns.
  The weights of chunk `n` are sixteen groups of `Block.group`, each over four tiles of words loaded with a row stride
  of 28 and one column of scales and of offsets. The chunk's product with the input block is added to the chunk's
  columns of the accumulator. The first point starts from an accumulator of zeros; the last one copies the
  accumulator, rounded, to the output.

    `piecesB`, `piecesC`, `piecesA`, `outC` — the run's stores ARE these definitions (by evaluation).

  What these definitions are index by index is in KernelPoint.lean.
-/
module

public import proofs.«01_k».proof.Proof.Block
public import proofs.«01_k».proof.Proof.Gen.KernelIdeal.Frame
public import Idealize.ShloMosaic.Lib.MatmulPlain
public import Idealize.ShloMosaic.Lib.Pipeline.CanonAppend

@[expose] public section

set_option maxRecDepth 16384

noncomputable section

namespace Cert.KernelStep

open Idealize.ShloMosaic hiding ix2
open Idealize.ShloMosaic.ValueIdx
open Idealize.ShloMosaic.Tactic
open Cert.Block (group stackRows group_apply stackRows_apply)
open Cert.KernelIdeal Cert.KernelIdeal.Gen
open scoped BigOperators

section Stores

variable {F : FTy → Type} [FloatOps F]
variable (arg1 : Memref sig .tc .vmem S256x512 .bf16) (harg1 : arg1.IsWhole)
  (arg2 : Memref sig .tc .vmem S14336x128 .i8) (harg2 : arg2.IsWhole)
  (arg3 : Memref sig .tc .vmem S512x7 .bf16) (harg3 : arg3.IsWhole)
  (arg4 : Memref sig .tc .vmem S512x7 .bf16) (harg4 : arg4.IsWhole)
  (arg6 : Memref sig .tc .vmem S256x3584 .f32) (harg6 : arg6.IsWhole)
  (arg7 : Memref sig .tc .vmem S3584x128 .i32)
  (x0 : Vec F S256x512 .bf16) (x1 : Vec F S14336x128 .i8) (x2 x3 : Vec F S512x7 .bf16) (xs0 : Vec F S256x3584 .f32)

/-- The one store of the words, as the list of stores a later load reads. -/
def words : List (View.Piece (Elt F) S3584x128 .i32) :=
  [⟨Rect.unit ![0, 0] S3584x128.size inb_S3584x128_S3584x128_0_0, k0_pay4
    (View.readAt (Elt F) arg2.view (Rect.unit ![0, 0] S14336x128.size inb_S14336x128_S14336x128_0_0).toLoadRect (harg2.unread x1))⟩]

/-- The tile of words loaded from row `o`: rows `o`, `o + 28`, …, `o + 196`. -/
def tile (o : Nat) (ho : o < 3388) : IVec S8x128 32 :=
  arg7.view.readCov (words arg2 harg2 x1) (⟨![o, 0], S8x128.size, ![28, 1], fun b => by
    match b with
    | ⟨0, _⟩ => exact Or.inr (show o + 28 * 7 < 3584 by omega)
    | ⟨1, _⟩ => exact Or.inr (show 0 + 1 * 127 < 128 by omega)⟩ : LoadRect S3584x128)

/-- Column `n` of a block of row constants, rows `o … o + 31`. -/
def col (a : Memref sig .tc .vmem S512x7 .bf16) (ha : a.IsWhole) (x : Vec F S512x7 .bf16) (o : Nat) (ho : o < 481) (n : Fin 7) :
    FVec F S32x1 .bf16 :=
  View.readAt (Elt F) a.view (Rect.unit (s := S512x7) ![o, n.val] S32x1.size fun b => by
    match b with
    | ⟨0, _⟩ => exact (show o + 32 ≤ 512 by omega)
    | ⟨1, _⟩ => exact (show n.val + 1 ≤ 7 by omega)).toLoadRect (ha.unread x)

/-- The four tiles of group `g` of chunk `n`. -/
def tiles (n : Fin 7) (g : Fin 16) (r : Fin 4) : IVec S8x128 32 :=
  tile arg2 harg2 arg7 x1 (224 * g.val + n.val + 7 * r.val) (by omega)

/-- The weights of chunk `n`. -/
def chunkW (n : Fin 7) : FVec F S512x512 .bf16 :=
  stackRows fun g => group (tiles arg2 harg2 arg7 x1 n g 0) (tiles arg2 harg2 arg7 x1 n g 1) (tiles arg2 harg2 arg7 x1 n g 2)
    (tiles arg2 harg2 arg7 x1 n g 3) (col arg3 harg3 x2 (32 * g.val) (by omega) n) (col arg4 harg4 x3 (32 * g.val) (by omega) n)

/-- A chunk's store: what the accumulator held there plus the product of the input block with the chunk's weights. -/
def chunkOut (x : FVec F S256x512 .bf16) (W : FVec F S512x512 .bf16) (s : FVec F S256x512 .f32) : FVec F S256x512 .f32 :=
  shapeCast S256x512 (addf s (matmul dot_S256x512_S512x512_S256x512_1_0_0_1_n_n none (shapeCast S256x512 x (by decide)) W
    (constant S256x512 .f32 0x00000000#32))) (by decide)

/-- The accumulator's columns `512 n … 512 n + 511`. -/
def slabRect (n : Fin 7) : Rect S256x3584 := Rect.unit ![0, 512 * n.val] S256x512.size fun b => by
    match b with
    | ⟨0, _⟩ => exact (show 0 + 256 ≤ 256 by omega)
    | ⟨1, _⟩ => exact (show 512 * n.val + 512 ≤ 3584 by omega)

/-- The input block as loaded. -/
def xload : FVec F S256x512 .bf16 :=
  View.readAt (Elt F) arg1.view (Rect.unit ![0, 0] S256x512.size inb_S256x512_S256x512_0_0).toLoadRect (harg1.unread x0)

/-- The accumulator's columns of chunk `n` as loaded. -/
def slab (n : Fin 7) : FVec F S256x512 .f32 := View.readAt (Elt F) arg6.view (slabRect n).toLoadRect (harg6.unread xs0)

/-- Chunk `n`'s store over the columns `s` it found. -/
def piece (n : Fin 7) (s : FVec F S256x512 .f32) : View.Piece (Elt F) S256x3584 .f32 :=
  ⟨slabRect n, chunkOut (xload arg1 harg1 x0) (chunkW arg2 harg2 arg3 harg3 arg4 harg4 arg7 x1 x2 x3 n) s⟩

/-- The stores of a point that found the accumulator at `xs0`, last first. -/
def carried : List (View.Piece (Elt F) S256x3584 .f32) :=
  [6, 5, 4, 3, 2, 1, 0].map fun n => piece arg1 harg1 arg2 harg2 arg3 harg3 arg4 harg4 arg7 x0 x1 x2 x3 n (slab arg6 harg6 xs0 n)

/-- The first `n` stores of chunks of the point that zeroes the accumulator first, last first, over the store of zeros. -/
def fresh : Nat → List (View.Piece (Elt F) S256x3584 .f32)
  | 0 => [⟨Rect.unit ![0, 0] S256x3584.size inb_S256x3584_S256x3584_0_0, k0_pay3⟩]
  | n + 1 => piece arg1 harg1 arg2 harg2 arg3 harg3 arg4 harg4 arg7 x0 x1 x2 x3 ⟨n % 7, Nat.mod_lt _ (by decide)⟩
      (arg6.view.readCov (fresh n) (slabRect ⟨n % 7, Nat.mod_lt _ (by decide)⟩).toLoadRect) :: fresh n

end Stores

/-! ## The run's stores -/

section Runs

variable {F : FTy → Type} [FloatOps F]
variable (c : Dev nD) (i : grid0.Coords) (arg1 : Memref sig .tc .vmem S256x512 .bf16) (harg1 : arg1.IsWhole) (arg2 : Memref sig .tc .vmem S14336x128 .i8) (harg2 : arg2.IsWhole) (arg3 : Memref sig .tc .vmem S512x7 .bf16) (harg3 : arg3.IsWhole) (arg4 : Memref sig .tc .vmem S512x7 .bf16) (harg4 : arg4.IsWhole) (arg5 : Memref sig .tc .vmem S256x3584 .bf16) (harg5 : arg5.IsWhole) (arg6 : Memref sig .tc .vmem S256x3584 .f32) (harg6 : arg6.IsWhole) (arg7 : Memref sig .tc .vmem S3584x128 .i32) (harg7 : arg7.IsWhole)
  (x0 : Vec F S256x512 .bf16) (x1 : Vec F S14336x128 .i8) (x2 x3 : Vec F S512x7 .bf16) (xs0 : Vec F S256x3584 .f32)

theorem piecesB (hc0 : ¬cond0_0 i) (hc1 : ¬cond0_1 i) :
    (kernelRun0_B c i arg1 harg1 arg2 harg2 arg3 harg3 arg4 harg4 arg5 harg5 arg6 harg6 arg7 harg7 hc0 hc1 x0 x1 x2 x3 xs0).2.1
      = carried arg1 harg1 arg2 harg2 arg3 harg3 arg4 harg4 arg6 harg6 arg7 x0 x1 x2 x3 xs0 := by
  sl_kernel_rfl

theorem piecesC (hc0 : ¬cond0_0 i) (hc1 : cond0_1 i) :
    (kernelRun0_C c i arg1 harg1 arg2 harg2 arg3 harg3 arg4 harg4 arg5 harg5 arg6 harg6 arg7 harg7 hc0 hc1 x0 x1 x2 x3 xs0).2.1
      = carried arg1 harg1 arg2 harg2 arg3 harg3 arg4 harg4 arg6 harg6 arg7 x0 x1 x2 x3 xs0 := by
  sl_kernel_rfl

theorem piecesA (hc0 : cond0_0 i) (hc1 : ¬cond0_1 i) :
    (kernelRun0_A c i arg1 harg1 arg2 harg2 arg3 harg3 arg4 harg4 arg5 harg5 arg6 harg6 arg7 harg7 hc0 hc1 x0 x1 x2 x3).2.1
      = fresh arg1 harg1 arg2 harg2 arg3 harg3 arg4 harg4 arg6 arg7 x0 x1 x2 x3 7 := by
  sl_kernel_rfl

theorem outC (hc0 : ¬cond0_0 i) (hc1 : cond0_1 i) :
    (kernelRun0_C c i arg1 harg1 arg2 harg2 arg3 harg3 arg4 harg4 arg5 harg5 arg6 harg6 arg7 harg7 hc0 hc1 x0 x1 x2 x3 xs0).1
      = [⟨Rect.unit ![0, 0] S256x3584.size inb_S256x3584_S256x3584_0_0, k0_pay2
          (arg6.view.readCov (carried arg1 harg1 arg2 harg2 arg3 harg3 arg4 harg4 arg6 harg6 arg7 x0 x1 x2 x3 xs0)
            (Rect.unit ![0, 0] S256x3584.size inb_S256x3584_S256x3584_0_0).toLoadRect)⟩] := by
  sl_kernel_rfl

end Runs

end Cert.KernelStep

end
-- ==== Proof.KernelPoint.lean ====
/-
  What one point of the kernel leaves, index by index: the definitions of KernelStep.lean read at an index.

    `word_byte`, `tile_apply`, `col_apply`   — a byte of a stored word is a code of the block; a loaded tile and a
                                               loaded column at an index;
    `chunkW_apply`                           — the weight at row `k` and column `j` of chunk `n`;
    `addend`                                 — what a point adds to the accumulator (over the extended reals);
    `canon_over`                             — the seven chunks' stores leave the accumulator plus the addend;
    `sout_A`, `sout_B`, `sout_C`, `out_C`    — what the first, a middle and the last point leave in the accumulator,
                                               and what the last point leaves in the output block.
-/
module

public import proofs.«01_k».proof.Proof.KernelStep
public import Idealize.ShloMosaic.Lib.Pipeline.ReadBack
public import Idealize.ShloMosaic.Lib.Pipeline.ValueKit.Tiles

@[expose] public section

set_option maxRecDepth 16384

noncomputable section

namespace Cert.KernelStep

open Idealize.ShloMosaic hiding ix2
open Idealize.ShloMosaic.ValueIdx
open Idealize.ShloMosaic.Tactic
open Cert.Block (group stackRows group_apply stackRows_apply)
open Cert.KernelIdeal Cert.KernelIdeal.Gen
open scoped BigOperators

/-! ## The loads and the weights at an index -/

section Loads

variable {F : FTy → Type} [FloatOps F]
variable (arg1 : Memref sig .tc .vmem S256x512 .bf16) (harg1 : arg1.IsWhole)
  (arg2 : Memref sig .tc .vmem S14336x128 .i8) (harg2 : arg2.IsWhole)
  (arg3 : Memref sig .tc .vmem S512x7 .bf16) (harg3 : arg3.IsWhole)
  (arg4 : Memref sig .tc .vmem S512x7 .bf16) (harg4 : arg4.IsWhole)
  (arg6 : Memref sig .tc .vmem S256x3584 .f32) (harg6 : arg6.IsWhole)
  (arg7 : Memref sig .tc .vmem S3584x128 .i32)
  (x0 : Vec F S256x512 .bf16) (x1 : Vec F S14336x128 .i8) (x2 x3 : Vec F S512x7 .bf16) (xs0 : Vec F S256x3584 .f32)

theorem zero2 : (![0, 0] : Fin 2 → Nat) = fun _ => 0 := by
  funext a
  match a with
  | ⟨0, _⟩ => rfl
  | ⟨1, _⟩ => rfl

/-- The input block as loaded is the input block. -/
theorem xload_eq : xload arg1 harg1 x0 = x0 := by
  unfold xload
  rw [View.readAt_eq_ld, harg1.read_unread, View.ld_unit_zero zero2]

/-- The columns of an accumulator `Z` under chunk `n`. -/
def cut (Z : Vec F S256x3584 .f32) (n : Fin 7) : FVec F S256x512 .f32 := View.ld Z (slabRect n)

/-- The columns as loaded are the accumulator's. -/
theorem slab_eq (n : Fin 7) : slab arg6 harg6 xs0 n = cut xs0 n := by
  unfold slab cut
  rw [View.readAt_eq_ld, harg6.read_unread]

/-- Byte `q` of word `w` at lane `l` is the code at row `4 w + q` and lane `l`. -/
theorem word_byte (x : Vec F S14336x128 .i8) (w : Fin 3584) (l : Fin 128) (q : Nat) (hq : q < 4) (p : Fin 14336) (hp : p.val = 4 * w.val + q) :
    (k0_pay4 x (ix2 w l)).extractLsb' (8 * q) 8 = x (ix2 p l) := by
  have e : k0_pay4 x (ix2 w l) = bitcast S3584x128 32 x bitcasts_S14336x128_w8_S3584x128_w32 (ix2 w l) := by
    unfold k0_pay4
    rw [shapeCast_self, shapeCast_self]
  rw [e]
  apply BitVec.eq_of_getLsbD_eq
  intro b hb
  rw [BitVec.getLsbD_extractLsb', bitcast_8_32_getLsbD_ix2 x _ w l (8 * q + b) (by omega) p (by omega),
    show (8 * q + b) % 8 = b by omega]
  simp [hb]

/-- A tile at an index. -/
theorem tile_apply (o : Nat) (ho : o < 3388) (a : Fin 8) (l : Fin 128) :
    tile arg2 harg2 arg7 x1 o ho (ix2 a l) = k0_pay4 x1 (ix2 (⟨o + 28 * a.val, by omega⟩ : Fin 3584) l) := by
  unfold tile words
  rw [View.readCov_eq_canon', View.canon_unit_zero zero2, View.readAt_eq_ld, harg2.read_unread, View.ld_unit_zero zero2]
  show k0_pay4 x1 _ = k0_pay4 x1 _
  congr 1
  funext b
  match b with
  | ⟨0, _⟩ => rfl
  | ⟨1, _⟩ => exact Fin.ext (show 0 + 1 * l.val = l.val by omega)

/-- A column of row constants at an index. -/
theorem col_apply (a : Memref sig .tc .vmem S512x7 .bf16) (ha : a.IsWhole) (x : Vec F S512x7 .bf16) (o : Nat) (ho : o < 481) (n : Fin 7) (R : Fin 32) :
    col a ha x o ho n (ix2 R (0 : Fin 1)) = x (ix2 (⟨o + R.val, by omega⟩ : Fin 512) n) := by
  unfold col
  rw [View.readAt_eq_ld, ha.read_unread]
  refine View.ld_unit_apply_of x _ _ _ _ _ fun b => ?_
  match b with
  | ⟨0, _⟩ => rfl
  | ⟨1, _⟩ => rfl

/-- The weight at row `k` and column `j` of chunk `n`: the code, times the row's scale, plus the row's offset. -/
theorem chunkW_apply (n : Fin 7) (k j : Fin 512) :
    chunkW arg2 harg2 arg3 harg3 arg4 harg4 arg7 x1 x2 x3 n (ix2 k j)
      = FloatOps.addf (FloatOps.mulf (FloatOps.uitofp .bf16
          (x1 (ix2 (⟨28 * k.val + 4 * n.val + j.val / 128, by omega⟩ : Fin 14336) (⟨j.val % 128, Nat.mod_lt _ (by decide)⟩ : Fin 128))))
          (x2 (ix2 k n))) (x3 (ix2 k n)) := by
  unfold chunkW
  rw [stackRows_apply, group_apply (tiles arg2 harg2 arg7 x1 n _), col_apply, col_apply]
  unfold tiles
  rw [tile_apply, word_byte _ _ _ _ (by omega) ⟨28 * k.val + 4 * n.val + j.val / 128, by omega⟩
    (show 28 * k.val + 4 * n.val + j.val / 128 = 4 * (224 * (k.val / 32) + n.val + 7 * (k.val % 32 % 4) + 28 * (k.val % 32 / 4)) + j.val / 128 by omega)]
  have ek : (⟨32 * (k.val / 32) + k.val % 32, by omega⟩ : Fin 512) = k := Fin.ext (by show 32 * (k.val / 32) + k.val % 32 = k.val; omega)
  rw [ek]

end Loads

/-! ## What a point adds -/

section Ideal

/-- What a point adds to the accumulator at an index: the row of the input block times the column of weights. -/
def addend (x0 : Vec Ideal S256x512 .bf16) (x1 : Vec Ideal S14336x128 .i8) (x2 x3 : Vec Ideal S512x7 .bf16) (y : S256x3584.Idx) : EReal :=
  ∑ k : Fin 512, (x0 (ix2 (⟨(y 0).val, (y 0).isLt⟩ : Fin 256) k) : EReal)
    * (FloatOps.uitofp (F := Ideal) .bf16 (x1 (ix2 (⟨28 * k.val + (y 1).val / 128, by have h : (y 1).val < 3584 := (y 1).isLt; omega⟩ : Fin 14336)
        (⟨(y 1).val % 128, Nat.mod_lt _ (by decide)⟩ : Fin 128)))
      * x2 (ix2 k (⟨(y 1).val / 512, by have h : (y 1).val < 3584 := (y 1).isLt; omega⟩ : Fin 7))
      + x3 (ix2 k (⟨(y 1).val / 512, by have h : (y 1).val < 3584 := (y 1).isLt; omega⟩ : Fin 7)))

/-- A chunk's store at an index. -/
theorem chunkOut_apply (x : FVec Ideal S256x512 .bf16) (W : FVec Ideal S512x512 .bf16) (s : FVec Ideal S256x512 .f32) (r : Fin 256) (j : Fin 512) :
    chunkOut x W s (ix2 r j) = (s (ix2 r j) : EReal) + ∑ k : Fin 512, (x (ix2 r k) : EReal) * W (ix2 k j) := by
  unfold chunkOut
  rw [shapeCast_self, shapeCast_self]
  show (s (ix2 r j) : EReal) + FloatOps.matmul (DotDims.plain 256 512 512) none x W (constant (F := Ideal) S256x512 .f32 0x00000000#32) (ix2 r j) = _
  rw [Ideal.matmul_plain_apply]
  have z : (constant (F := Ideal) S256x512 .f32 0x00000000#32 (ix2 r j) : EReal) = 0 := by
    show Ideal.ofBits .f32 0x00000000#32 = 0
    simp
  rw [z, zero_add]

variable (arg1 : Memref sig .tc .vmem S256x512 .bf16) (harg1 : arg1.IsWhole)
  (arg2 : Memref sig .tc .vmem S14336x128 .i8) (harg2 : arg2.IsWhole)
  (arg3 : Memref sig .tc .vmem S512x7 .bf16) (harg3 : arg3.IsWhole)
  (arg4 : Memref sig .tc .vmem S512x7 .bf16) (harg4 : arg4.IsWhole)
  (arg6 : Memref sig .tc .vmem S256x3584 .f32) (harg6 : arg6.IsWhole)
  (arg7 : Memref sig .tc .vmem S3584x128 .i32)
  (x0 : Vec Ideal S256x512 .bf16) (x1 : Vec Ideal S14336x128 .i8) (x2 x3 : Vec Ideal S512x7 .bf16) (xs0 : Vec Ideal S256x3584 .f32)

/-- Chunk `n`'s store is its columns of the accumulator plus the addend. -/
theorem piece_apply (n : Fin 7) (x : (slabRect n).shape.Idx) :
    (piece arg1 harg1 arg2 harg2 arg3 harg3 arg4 harg4 arg7 x0 x1 x2 x3 n (cut xs0 n)).2 x
      = (fun y => (xs0 y : EReal) + addend x0 x1 x2 x3 y) ((slabRect n).emb x) := by
  have hx : x = ix2 (⟨(x 0).val, (x 0).isLt⟩ : Fin 256) (⟨(x 1).val, (x 1).isLt⟩ : Fin 512) := by
    funext a
    match a with
    | ⟨0, _⟩ => rfl
    | ⟨1, _⟩ => rfl
  generalize (⟨(x 0).val, (x 0).isLt⟩ : Fin 256) = r at hx
  generalize (⟨(x 1).val, (x 1).isLt⟩ : Fin 512) = j at hx
  subst hx
  show chunkOut (xload arg1 harg1 x0) (chunkW arg2 harg2 arg3 harg3 arg4 harg4 arg7 x1 x2 x3 n) (cut xs0 n) (ix2 r j) = _
  rw [chunkOut_apply, xload_eq]
  have h0 : (((slabRect n).emb (ix2 r j)) 0).val = r.val := by show 0 + 1 * r.val = r.val; omega
  have h1 : (((slabRect n).emb (ix2 r j)) 1).val = 512 * n.val + j.val := by show 512 * n.val + 1 * j.val = _; omega
  refine congrArg₂ (· + ·) rfl ?_
  refine Finset.sum_congr rfl fun k _ => ?_
  rw [chunkW_apply]
  have er : (⟨(((slabRect n).emb (ix2 r j)) 0).val, (((slabRect n).emb (ix2 r j)) 0).isLt⟩ : Fin 256) = r := Fin.ext h0
  have ec : (⟨(((slabRect n).emb (ix2 r j)) 1).val / 512, by rw [h1]; omega⟩ : Fin 7) = n := Fin.ext (by
    show (((slabRect n).emb (ix2 r j)) 1).val / 512 = n.val; rw [h1]; omega)
  have ep : (⟨28 * k.val + (((slabRect n).emb (ix2 r j)) 1).val / 128, by rw [h1]; omega⟩ : Fin 14336)
      = ⟨28 * k.val + 4 * n.val + j.val / 128, by omega⟩ := Fin.ext (by
    show 28 * k.val + (((slabRect n).emb (ix2 r j)) 1).val / 128 = 28 * k.val + 4 * n.val + j.val / 128; rw [h1]; omega)
  have el : (⟨(((slabRect n).emb (ix2 r j)) 1).val % 128, Nat.mod_lt _ (by decide)⟩ : Fin 128) = ⟨j.val % 128, Nat.mod_lt _ (by decide)⟩ := Fin.ext (by
    show (((slabRect n).emb (ix2 r j)) 1).val % 128 = j.val % 128; rw [h1]; omega)
  rw [er, ec, ep, el]
  rfl

/-- The indices of chunk `n`'s columns. -/
theorem mem_slab (n : Fin 7) (y : S256x3584.Idx) : y ∈ (slabRect n).set ↔ 512 * n.val ≤ (y 1).val ∧ (y 1).val < 512 * n.val + 512 := by
  have h0 : (y 0).val < 256 := (y 0).isLt
  unfold slabRect
  rw [Rect.mem_set_unit]
  constructor
  · intro h
    exact h 1
  · rintro ⟨h1, h2⟩ a
    match a with
    | ⟨0, _⟩ => exact ⟨Nat.zero_le _, by show (y 0).val < 0 + 256; omega⟩
    | ⟨1, _⟩ => exact ⟨h1, h2⟩

/-- The seven chunks' columns cover the accumulator. -/
theorem slab_cover (y : S256x3584.Idx) : y ∈ (slabRect ⟨(y 1).val / 512, by have h : (y 1).val < 3584 := (y 1).isLt; omega⟩).set := by
  rw [mem_slab]
  constructor
  · show 512 * ((y 1).val / 512) ≤ (y 1).val; omega
  · show (y 1).val < 512 * ((y 1).val / 512) + 512; omega

/-- The chunk stores over an accumulator `Z`, last first. -/
def over (Z : Vec Ideal S256x3584 .f32) : List (View.Piece (Elt Ideal) S256x3584 .f32) :=
  [6, 5, 4, 3, 2, 1, 0].map fun n => piece arg1 harg1 arg2 harg2 arg3 harg3 arg4 harg4 arg7 x0 x1 x2 x3 n (cut Z n)

/-- The chunk stores over `Z`, whatever stores lie under them, leave `Z` plus the addend. -/
theorem canon_over (Z : Vec Ideal S256x3584 .f32) (L : List (View.Piece (Elt Ideal) S256x3584 .f32)) :
    View.canon (over arg1 harg1 arg2 harg2 arg3 harg3 arg4 harg4 arg7 x0 x1 x2 x3 Z ++ L) = fun y => (Z y : EReal) + addend x0 x1 x2 x3 y := by
  funext y
  have hall : ∀ n : Fin 7, n ∈ ([6, 5, 4, 3, 2, 1, 0] : List (Fin 7)) := by decide
  refine View.canon_append_of_pieces (fun y => (Z y : EReal) + addend x0 x1 x2 x3 y) L _ (fun p hp x => ?_) y ?_
  · obtain ⟨n, -, rfl⟩ := List.mem_map.1 hp
    exact piece_apply arg1 harg1 arg2 harg2 arg3 harg3 arg4 harg4 arg7 x0 x1 x2 x3 Z n x
  · exact ⟨_, List.mem_map.2 ⟨_, hall _, rfl⟩, slab_cover y⟩

/-- The stores of a point that found the accumulator at `xs0` are the chunk stores over it. -/
theorem carried_eq : carried arg1 harg1 arg2 harg2 arg3 harg3 arg4 harg4 arg6 harg6 arg7 x0 x1 x2 x3 xs0
    = over arg1 harg1 arg2 harg2 arg3 harg3 arg4 harg4 arg7 x0 x1 x2 x3 xs0 ++ [] := by
  unfold carried over
  rw [List.append_nil]
  exact List.map_congr_left fun n _ => by rw [slab_eq]

/-- A chunk's columns, read under the stores of the chunks before it, are still zero. -/
theorem fresh_read (n : Fin 7) : ∀ m : Nat, m ≤ n.val →
    arg6.view.readCov (fresh arg1 harg1 arg2 harg2 arg3 harg3 arg4 harg4 arg6 arg7 x0 x1 x2 x3 m) (slabRect n).toLoadRect
      = View.ld (k0_pay3 (F := Ideal)) (slabRect n)
  | 0, _ => by
    unfold fresh
    exact View.readCov_fill _ _ _ _ _ (fun a => by rw [zero2])
  | m + 1, h => by
    have hm : m % 7 = m := Nat.mod_eq_of_lt (by omega)
    unfold fresh piece
    rw [View.readCov_cons_of_disjoint]
    · exact fresh_read n m (by omega)
    · rw [Finset.disjoint_left]
      intro y h1 h2
      have e1 := ((mem_slab _ y).1 h1).2
      have e2 := ((mem_slab _ y).1 h2).1
      dsimp only at e1
      omega

/-- The stores of the point that zeroes the accumulator first are the chunk stores over zeros. -/
theorem fresh_eq : fresh arg1 harg1 arg2 harg2 arg3 harg3 arg4 harg4 arg6 arg7 x0 x1 x2 x3 7
    = over arg1 harg1 arg2 harg2 arg3 harg3 arg4 harg4 arg7 x0 x1 x2 x3 (k0_pay3 (F := Ideal))
      ++ fresh arg1 harg1 arg2 harg2 arg3 harg3 arg4 harg4 arg6 arg7 x0 x1 x2 x3 0 := by
  have step : ∀ n : Fin 7, fresh arg1 harg1 arg2 harg2 arg3 harg3 arg4 harg4 arg6 arg7 x0 x1 x2 x3 (n.val + 1)
      = piece arg1 harg1 arg2 harg2 arg3 harg3 arg4 harg4 arg7 x0 x1 x2 x3 n (cut (k0_pay3 (F := Ideal)) n)
        :: fresh arg1 harg1 arg2 harg2 arg3 harg3 arg4 harg4 arg6 arg7 x0 x1 x2 x3 n.val := fun n => by
    have e : (⟨n.val % 7, Nat.mod_lt _ (by decide)⟩ : Fin 7) = n := Fin.ext (Nat.mod_eq_of_lt n.isLt)
    conv_lhs => unfold fresh
    rw [e]
    exact congrArg (fun s : FVec Ideal S256x512 .f32 => piece arg1 harg1 arg2 harg2 arg3 harg3 arg4 harg4 arg7 x0 x1 x2 x3 n s
      :: fresh arg1 harg1 arg2 harg2 arg3 harg3 arg4 harg4 arg6 arg7 x0 x1 x2 x3 n.val)
      (fresh_read arg1 harg1 arg2 harg2 arg3 harg3 arg4 harg4 arg6 arg7 x0 x1 x2 x3 n n.val le_rfl)
  rw [show (7 : Nat) = (6 : Fin 7).val + 1 from rfl, step 6, show (6 : Fin 7).val = (5 : Fin 7).val + 1 from rfl, step 5,
    show (5 : Fin 7).val = (4 : Fin 7).val + 1 from rfl, step 4, show (4 : Fin 7).val = (3 : Fin 7).val + 1 from rfl, step 3,
    show (3 : Fin 7).val = (2 : Fin 7).val + 1 from rfl, step 2, show (2 : Fin 7).val = (1 : Fin 7).val + 1 from rfl, step 1,
    show (1 : Fin 7).val = (0 : Fin 7).val + 1 from rfl, step 0]
  rfl

/-! ## What a point leaves -/

/-- A later point leaves the accumulator it found plus the addend, -/
theorem sout_B (c : Dev nD) (i : grid0.Coords) (arg5 : Memref sig .tc .vmem S256x3584 .bf16) (harg5 : arg5.IsWhole) (harg7 : arg7.IsWhole) (hc0 : ¬cond0_0 i) (hc1 : ¬cond0_1 i) :
    sout0_B_0 c i arg1 harg1 arg2 harg2 arg3 harg3 arg4 harg4 arg5 harg5 arg6 harg6 arg7 harg7 hc0 hc1 x0 x1 x2 x3 xs0 = fun y => (xs0 y : EReal) + addend x0 x1 x2 x3 y := by
  unfold sout0_B_0
  rw [View.read_writes_junk_eq_canon, piecesB, carried_eq, canon_over]

/-- the last one likewise, -/
theorem sout_C (c : Dev nD) (i : grid0.Coords) (arg5 : Memref sig .tc .vmem S256x3584 .bf16) (harg5 : arg5.IsWhole) (harg7 : arg7.IsWhole) (hc0 : ¬cond0_0 i) (hc1 : cond0_1 i) :
    sout0_C_0 c i arg1 harg1 arg2 harg2 arg3 harg3 arg4 harg4 arg5 harg5 arg6 harg6 arg7 harg7 hc0 hc1 x0 x1 x2 x3 xs0 = fun y => (xs0 y : EReal) + addend x0 x1 x2 x3 y := by
  unfold sout0_C_0
  rw [View.read_writes_junk_eq_canon, piecesC, carried_eq, canon_over]

/-- the first one the addend alone, -/
theorem sout_A (c : Dev nD) (i : grid0.Coords) (arg5 : Memref sig .tc .vmem S256x3584 .bf16) (harg5 : arg5.IsWhole) (harg7 : arg7.IsWhole) (hc0 : cond0_0 i) (hc1 : ¬cond0_1 i) :
    sout0_A_0 c i arg1 harg1 arg2 harg2 arg3 harg3 arg4 harg4 arg5 harg5 arg6 harg6 arg7 harg7 hc0 hc1 x0 x1 x2 x3 = addend x0 x1 x2 x3 := by
  unfold sout0_A_0
  rw [View.read_writes_junk_eq_canon, piecesA, fresh_eq, canon_over]
  funext y
  have z : (k0_pay3 (F := Ideal) y : EReal) = 0 := by
    unfold k0_pay3
    rw [shapeCast_self]
    show Ideal.ofBits .f32 0x00000000#32 = 0
    simp
  rw [z, zero_add]

/-- and the last one's output is its accumulator: the rounding is the identity over the extended reals. -/
theorem out_C (c : Dev nD) (i : grid0.Coords) (arg5 : Memref sig .tc .vmem S256x3584 .bf16) (harg5 : arg5.IsWhole) (harg7 : arg7.IsWhole) (hc0 : ¬cond0_0 i) (hc1 : cond0_1 i) :
    out0_C_4 c i arg1 harg1 arg2 harg2 arg3 harg3 arg4 harg4 arg5 harg5 arg6 harg6 arg7 harg7 hc0 hc1 x0 x1 x2 x3 xs0 = fun y => (xs0 y : EReal) + addend x0 x1 x2 x3 y := by
  unfold out0_C_4
  rw [View.read_writes_junk_eq_canon, outC, View.canon_unit_zero zero2, View.readCov_eq_canon', carried_eq, canon_over]
  funext y
  have e : (Rect.unit ![0, 0] S256x3584.size inb_S256x3584_S256x3584_0_0).toLoadRect.idx y = y := by
    funext a
    match a with
    | ⟨0, _⟩ => exact Fin.ext (show 0 + 1 * (y 0).val = (y 0).val by omega)
    | ⟨1, _⟩ => exact Fin.ext (show 0 + 1 * (y 1).val = (y 1).val by omega)
  show (fun y => (xs0 y : EReal) + addend x0 x1 x2 x3 y) _ = _
  rw [e]

end Ideal

end Cert.KernelStep

end
-- ==== Proof.KernelValue.lean ====
/-
  The kernel's result is `Spec.product` of its four arguments, over the extended reals.

    `V_v0`, `V_v1`, `V_v5`, `V_v9` — the arrays the host prepares: the input, the codes 128 to a row, and per row of
                                     weights the scales and the offsets of its seven chunks;
    `blk0` … `blk3`                — a point's blocks of them at an index;
    `addend_eq`                    — point `t` adds the terms of rows `512 t … 512 t + 511`;
    `carried`, `result`            — the accumulator after each point, and the result.
-/
module

public import proofs.«01_k».proof.Proof.Spec
public import proofs.«01_k».proof.Proof.KernelPoint
public import proofs.«01_k».proof.Proof.Gen.KernelIdeal.Value
public import Idealize.ShloMosaic.Lib.Pipeline.ValueKit.Point

@[expose] public section

set_option maxRecDepth 16384

noncomputable section

namespace Cert.KernelValue

open Idealize.ShloMosaic hiding ix1 ix2 ix3
open Idealize.ShloMosaic.ValueIdx
open Idealize.ShloMosaic.TcCoe
open Idealize.ShloMosaic.Tactic
open Cert.KernelIdeal Cert.KernelIdeal.Gen Cert.KernelIdeal.Value
open Cert.KernelStep
open Cert.Spec (weight term product sum_steps)
open scoped BigOperators

variable (m : (ℓ : Loc nD τ sig) → Buf (Elt Ideal) ℓ)

/-- The four arguments on device `c`. -/
def argX (c : Dev nD) : Cert.Spec.SX.Idx → EReal := m ((c : Thread nD τ).loc main_arg0)
def argQ (c : Dev nD) : Cert.Spec.SQ.Idx → BitVec 8 := m ((c : Thread nD τ).loc main_arg1)
def argS (c : Dev nD) : Cert.Spec.SC.Idx → EReal := m ((c : Thread nD τ).loc main_arg2)
def argO (c : Dev nD) : Cert.Spec.SC.Idx → EReal := m ((c : Thread nD τ).loc main_arg3)

/-- The arrays as the grid finds them: the input with its leading axis dropped, -/
theorem V_v0 (c : Dev nD) : (V m c main_v0 : S256x18944.Idx → EReal) = shapeCast S256x18944 (argX m c) shapeCasts_S1x256x18944_S256x18944 := by
  unfold_abbrev_sides
  after_results
  rfl

/-- the codes 128 to a row, -/
theorem V_v1 (c : Dev nD) : (V m c main_v1 : S530432x128.Idx → BitVec 8) = shapeCast S530432x128 (argQ m c) shapeCasts_S67895296_S530432x128 := by
  unfold_abbrev_sides
  after_results
  rfl

/-- the scales, each repeated for the four chunks of its block and laid out seven to a row, -/
theorem V_v5 (c : Dev nD) : (V m c main_v5 : S18944x7.Idx → EReal)
    = shapeCast S18944x7 (shapeCast S132608 (broadcastInDim S33152x4 ![0] bcast_S33152_S33152x4_0 (argS m c)) shapeCasts_S33152x4_S132608) shapeCasts_S132608_S18944x7 := by
  unfold_abbrev_sides
  after_results
  rfl

/-- and the offsets likewise. -/
theorem V_v9 (c : Dev nD) : (V m c main_v9 : S18944x7.Idx → EReal)
    = shapeCast S18944x7 (shapeCast S132608 (broadcastInDim S33152x4 ![0] bcast_S33152_S33152x4_0 (argO m c)) shapeCasts_S33152x4_S132608) shapeCasts_S132608_S18944x7 := by
  unfold_abbrev_sides
  after_results
  rfl

/-- The per-row scales at row `K` and chunk `n`: four chunks to a block. -/
theorem spread_apply (a : Cert.Spec.SC.Idx → EReal) (K : Fin 18944) (n : Fin 7) :
    shapeCast S18944x7 (shapeCast S132608 (broadcastInDim S33152x4 ![0] bcast_S33152_S33152x4_0 a) shapeCasts_S33152x4_S132608) shapeCasts_S132608_S18944x7 (ix2 K n)
      = a (ix1 (⟨(7 * K.val + n.val) / 4, by omega⟩ : Fin 33152)) := by
  rw [shapeCast_apply _ _ _ (ix1 (⟨7 * K.val + n.val, by omega⟩ : Fin 132608)) (by
      rw [Shape.rowMajor_val_one, Shape.rowMajor_val_two]
      show 7 * K.val + n.val = K.val * 7 + n.val; omega),
    shapeCast_apply _ _ _ (ix2 (⟨(7 * K.val + n.val) / 4, by omega⟩ : Fin 33152) (⟨(7 * K.val + n.val) % 4, Nat.mod_lt _ (by decide)⟩ : Fin 4)) (by
      rw [Shape.rowMajor_val_one, Shape.rowMajor_val_two]
      show (7 * K.val + n.val) / 4 * 4 + (7 * K.val + n.val) % 4 = 7 * K.val + n.val; omega),
    broadcastInDim_apply _ _ _ _ (ix1 (⟨(7 * K.val + n.val) / 4, by omega⟩ : Fin 33152)) (fun b => by
      match b with
      | ⟨0, _⟩ => rfl)]

/-- The windows' block indices: block `t` of the contracted axis. -/
theorem idx (t : Fin cfg0.N) : win0_0.index t = ![0, t.val] ∧ win0_1.index t = ![t.val, 0] ∧ win0_2.index t = ![t.val, 0] ∧ win0_3.index t = ![t.val, 0] :=
  (by decide +kernel : ∀ t : Fin grid0.N, win0_0.index t = ![0, t.val] ∧ win0_1.index t = ![t.val, 0] ∧ win0_2.index t = ![t.val, 0] ∧ win0_3.index t = ![t.val, 0]) t

/-- Point `t`'s blocks at an index: the input's, -/
theorem blk0 (c : Dev nD) (t : Fin cfg0.N) (r : Fin 256) (k : Fin 512) (h : t.val * 512 + k.val < 18944) :
    (iblk m c 0 t : S256x512.Idx → EReal) (ix2 r k) = argX m c (ix3 (0 : Fin 1) r (⟨t.val * 512 + k.val, h⟩ : Fin 18944)) := by
  have e : (iblk m c 0 t : S256x512.Idx → EReal) (ix2 r k) = (V m c main_v0 : S256x18944.Idx → EReal) (ix2 r (⟨t.val * 512 + k.val, h⟩ : Fin 18944)) := by
    blk_ext [iblk, (idx t).1]
  rw [e, V_v0, shapeCast_apply _ _ _ (ix3 (0 : Fin 1) r (⟨t.val * 512 + k.val, h⟩ : Fin 18944)) (by
    rw [Shape.rowMajor_val_three, Shape.rowMajor_val_two]
    show (0 * 256 + r.val) * 18944 + (t.val * 512 + k.val) = r.val * 18944 + (t.val * 512 + k.val); omega)]

/-- the codes', -/
theorem blk1 (c : Dev nD) (t : Fin cfg0.N) (p : Fin 14336) (l : Fin 128) (h : t.val * 14336 + p.val < 530432) :
    (iblk m c 1 t : S14336x128.Idx → BitVec 8) (ix2 p l) = argQ m c (ix1 (⟨(t.val * 14336 + p.val) * 128 + l.val, by omega⟩ : Fin 67895296)) := by
  have e : (iblk m c 1 t : S14336x128.Idx → BitVec 8) (ix2 p l) = (V m c main_v1 : S530432x128.Idx → BitVec 8) (ix2 (⟨t.val * 14336 + p.val, h⟩ : Fin 530432) l) := by
    blk_ext [iblk, (idx t).2.1]
  rw [e, V_v1, shapeCast_apply _ _ _ (ix1 (⟨(t.val * 14336 + p.val) * 128 + l.val, by omega⟩ : Fin 67895296)) (by
    rw [Shape.rowMajor_val_one, Shape.rowMajor_val_two]
    rfl)]

/-- the scales', -/
theorem blk2 (c : Dev nD) (t : Fin cfg0.N) (k : Fin 512) (n : Fin 7) (h : t.val * 512 + k.val < 18944) :
    (iblk m c 2 t : S512x7.Idx → EReal) (ix2 k n) = argS m c (ix1 (⟨(7 * (t.val * 512 + k.val) + n.val) / 4, by omega⟩ : Fin 33152)) := by
  have e : (iblk m c 2 t : S512x7.Idx → EReal) (ix2 k n) = (V m c main_v5 : S18944x7.Idx → EReal) (ix2 (⟨t.val * 512 + k.val, h⟩ : Fin 18944) n) := by
    blk_ext [iblk, (idx t).2.2.1]
  rw [e, V_v5, spread_apply]

/-- and the offsets'. -/
theorem blk3 (c : Dev nD) (t : Fin cfg0.N) (k : Fin 512) (n : Fin 7) (h : t.val * 512 + k.val < 18944) :
    (iblk m c 3 t : S512x7.Idx → EReal) (ix2 k n) = argO m c (ix1 (⟨(7 * (t.val * 512 + k.val) + n.val) / 4, by omega⟩ : Fin 33152)) := by
  have e : (iblk m c 3 t : S512x7.Idx → EReal) (ix2 k n) = (V m c main_v9 : S18944x7.Idx → EReal) (ix2 (⟨t.val * 512 + k.val, h⟩ : Fin 18944) n) := by
    blk_ext [iblk, (idx t).2.2.2]
  rw [e, V_v9, spread_apply]

/-- Step `t`'s part of the product: its 512 terms. -/
def step (c : Dev nD) (t : Nat) (y : S256x3584.Idx) : EReal :=
  ∑ k : Fin 512, term (argX m c) (argQ m c) (argS m c) (argO m c) (⟨(y 0).val, (y 0).isLt⟩ : Fin 256) (⟨(y 1).val, (y 1).isLt⟩ : Fin 3584) (t * 512 + k.val)

/-- Point `t` adds step `t`'s part. -/
theorem addend_eq (c : Dev nD) (t : Fin cfg0.N) (y : S256x3584.Idx) :
    addend (iblk m c 0 t) (iblk m c 1 t) (iblk m c 2 t) (iblk m c 3 t) y = step m c t.val y := by
  have ht : t.val < 37 := lt_of_lt_of_eq t.isLt N_0
  have hy : (y 1).val < 3584 := (y 1).isLt
  unfold addend step
  refine Finset.sum_congr rfl fun k _ => ?_
  have hk : k.val < 512 := k.isLt
  have hK : t.val * 512 + k.val < 18944 := by omega
  rw [term, dif_pos hK, blk0 m c t _ k hK, blk1 m c t _ _ (by show t.val * 14336 + (28 * k.val + (y 1).val / 128) < 530432; omega), blk2 m c t k _ hK, blk3 m c t k _ hK]
  have e1 : (t.val * 14336 + (28 * k.val + (y 1).val / 128)) * 128 + (y 1).val % 128 = 3584 * (t.val * 512 + k.val) + (y 1).val := by omega
  have e2 : (7 * (t.val * 512 + k.val) + (y 1).val / 512) / 4 = (3584 * (t.val * 512 + k.val) + (y 1).val) / 2048 := by omega
  unfold weight
  simp only [e1, e2]

/-- The first point leaves step 0's part in the accumulator, -/
theorem first (c : Dev nD) (t : Fin cfg0.N) (acc : Vec Ideal S256x3584 .bf16 × Vec Ideal S256x3584 .f32) (h0 : t.val % 37 = 0) (h1 : ¬t.val % 37 = 36) :
    (stAt0 m c t.val t.isLt acc).2 = step m c t.val := by
  rw [stAt0_A m c t acc h0 h1]
  dsimp only
  rw [sout_A]
  exact funext fun y => addend_eq m c t y

/-- every later point adds its step's part, -/
theorem later (c : Dev nD) (t : Fin cfg0.N) (acc : Vec Ideal S256x3584 .bf16 × Vec Ideal S256x3584 .f32) (h0 : ¬t.val % 37 = 0) :
    (stAt0 m c t.val t.isLt acc).2 = fun y => (acc.2 y : EReal) + step m c t.val y := by
  by_cases h1 : t.val % 37 = 36
  · rw [stAt0_C m c t acc h0 h1]
    dsimp only
    rw [sout_C]
    exact funext fun y => congrArg ((acc.2 y : EReal) + ·) (addend_eq m c t y)
  · rw [stAt0_B m c t acc h0 h1]
    dsimp only
    rw [sout_B]
    exact funext fun y => congrArg ((acc.2 y : EReal) + ·) (addend_eq m c t y)

/-- and the last point writes the accumulator out after adding its own. -/
theorem last (c : Dev nD) (t : Fin cfg0.N) (acc : Vec Ideal S256x3584 .bf16 × Vec Ideal S256x3584 .f32) (h0 : ¬t.val % 37 = 0) (h1 : t.val % 37 = 36) :
    (stAt0 m c t.val t.isLt acc).1 = fun y => (acc.2 y : EReal) + step m c t.val y := by
  rw [stAt0_C m c t acc h0 h1]
  dsimp only
  rw [out_C]
  exact funext fun y => congrArg ((acc.2 y : EReal) + ·) (addend_eq m c t y)

/-- After point `n` the accumulator holds the first `n + 1` steps' parts. -/
theorem carried (c : Dev nD) : ∀ (n : ℕ) (hn : n < cfg0.N),
    (outsAt0 m c n hn).2 = fun y => ∑ t ∈ Finset.range (n + 1), step m c t y
  | 0, hn => by
    rw [outsAt0_zero]
    refine (first m c ⟨0, hn⟩ junk0 rfl (by show ¬ 0 % 37 = 36; decide)).trans (funext fun y => ?_)
    rw [Finset.sum_range_one]
  | n + 1, hn => by
    have hN : n + 1 < 37 := lt_of_lt_of_eq hn N_0
    rw [outsAt0_succ]
    refine (later m c ⟨n + 1, hn⟩ _ (by show ¬ (n + 1) % 37 = 0; omega)).trans (funext fun y => ?_)
    rw [carried c n (Nat.lt_of_succ_lt hn), ← Finset.sum_range_succ]

/-- The kernel's result is the product. -/
theorem result (c : Dev nD) :
    (G4 m c : S256x3584.Idx → EReal) = product (argX m c) (argQ m c) (argS m c) (argO m c) := by
  have hn : 36 < cfg0.N := lt_of_lt_of_eq (by decide) N_0.symm
  have e : G4 m c = (outsAt0 m c 36 hn).1 := by rw [G4_last, outsAt0_sweep]
  rw [e, outsAt0_succ m c 35 hn]
  refine (last m c ⟨36, hn⟩ _ (by decide : ¬ 36 % 37 = 0) rfl).trans (funext fun y => ?_)
  rw [carried m c 35 (Nat.lt_of_succ_lt hn), ← Finset.sum_range_succ, sum_steps]
  rfl

end Cert.KernelValue

end
-- ==== Proof.ReferenceValue.lean ====
/-
  The reference's result is `Spec.product` of its four arguments, over the extended reals.

  The reference lays the codes out one block of 2048 to a row, scales and offsets every row, re-lays the list as the
  `18944 × 3584` weights and multiplies; each of these is read at an index.
-/
module

public import proofs.«01_k».proof.Proof.Spec
public import proofs.«01_k».proof.Proof.Gen.ReferenceIdeal.Value
public import Idealize.ShloMosaic.Lib.Pipeline.ValueKit.Point
public import Idealize.ShloMosaic.Lib.MatmulPlain

@[expose] public section

set_option maxRecDepth 16384

noncomputable section

namespace Cert.ReferenceValue

open Idealize.ShloMosaic hiding ix1 ix2 ix3
open Idealize.ShloMosaic.ValueIdx
open Idealize.ShloMosaic.TcCoe
open Idealize.ShloMosaic.Tactic
open Cert.ReferenceIdeal Cert.ReferenceIdeal.Gen Cert.ReferenceIdeal.Value
open Cert.Spec (weight product)
open scoped BigOperators

variable (m : (ℓ : Loc nD τ sig) → Buf (Elt Ideal) ℓ)

/-- The four arguments on device `c`. -/
def argX (c : Dev nD) : Cert.Spec.SX.Idx → EReal := m ((c : Thread nD τ).loc main_arg0)
def argQ (c : Dev nD) : Cert.Spec.SQ.Idx → BitVec 8 := m ((c : Thread nD τ).loc main_arg1)
def argS (c : Dev nD) : Cert.Spec.SC.Idx → EReal := m ((c : Thread nD τ).loc main_arg2)
def argO (c : Dev nD) : Cert.Spec.SC.Idx → EReal := m ((c : Thread nD τ).loc main_arg3)

/-- The arrays the body reads: the input with its leading axis dropped, -/
theorem V_v0 (c : Dev nD) : (V m c main_v0 : S256x18944.Idx → EReal) = shapeCast S256x18944 (argX m c) shapeCasts_S1x256x18944_S256x18944 := by
  unfold_abbrev_sides
  after_results
  rfl

/-- the codes a block to a row, -/
theorem V_v1 (c : Dev nD) : (V m c main_v1 : S33152x2048.Idx → BitVec 8) = shapeCast S33152x2048 (argQ m c) shapeCasts_S67895296_S33152x2048 := by
  unfold_abbrev_sides
  after_results
  rfl

/-- the scales as a column, -/
theorem V_v2 (c : Dev nD) : (V m c main_v2 : S33152x1.Idx → EReal) = shapeCast S33152x1 (argS m c) shapeCasts_S33152_S33152x1 := by
  unfold_abbrev_sides
  after_results
  rfl

/-- and the offsets as a column. -/
theorem V_v3 (c : Dev nD) : (V m c main_v3 : S33152x1.Idx → EReal) = shapeCast S33152x1 (argO m c) shapeCasts_S33152_S33152x1 := by
  unfold_abbrev_sides
  after_results
  rfl

theorem zero2 : (![0, 0] : Fin 2 → Nat) = fun _ => 0 := by
  funext a
  match a with
  | ⟨0, _⟩ => rfl
  | ⟨1, _⟩ => rfl

/-- The body's result at an index: the input's row times the re-laid weights' column. -/
theorem out_apply (x0 : Vec Ideal S256x18944 .bf16) (x1 : Vec Ideal S33152x2048 .i8) (x2 x3 : Vec Ideal S33152x1 .f32) (y : S256x3584.Idx) :
    (out0_4 x0 x1 x2 x3 y : EReal) = ∑ K : Fin 18944, (x0 (ix2 (⟨(y 0).val, (y 0).isLt⟩ : Fin 256) K) : EReal)
      * ((FloatOps.uitofp (F := Ideal) .bf16 (x1 (ix2 (⟨(3584 * K.val + (y 1).val) / 2048, by have : (y 1).val < 3584 := (y 1).isLt; omega⟩ : Fin 33152) (⟨(3584 * K.val + (y 1).val) % 2048, Nat.mod_lt _ (by decide)⟩ : Fin 2048))) : EReal)
        * (x2 (ix2 (⟨(3584 * K.val + (y 1).val) / 2048, by have : (y 1).val < 3584 := (y 1).isLt; omega⟩ : Fin 33152) (0 : Fin 1)) : EReal)
        + (x3 (ix2 (⟨(3584 * K.val + (y 1).val) / 2048, by have : (y 1).val < 3584 := (y 1).isLt; omega⟩ : Fin 33152) (0 : Fin 1)) : EReal)) := by
  have hy : (y 1).val < 3584 := (y 1).isLt
  unfold out0_4
  rw [View.canon_unit_zero zero2, View.ld_unit_zero zero2, View.ld_unit_zero zero2, View.ld_unit_zero zero2, View.ld_unit_zero zero2]
  unfold k0_pay1
  simp only [shapeCast_self]
  show FloatOps.matmul (DotDims.plain 256 18944 3584) none (φ₁ := .bf16) (φ₂ := .bf16) x0 _ (constant (F := Ideal) S256x3584 .f32 0x00000000#32) y = _
  obtain ⟨r, n, rfl⟩ : ∃ (r : Fin 256) (n : Fin 3584), y = ix2 r n := ⟨⟨(y 0).val, (y 0).isLt⟩, ⟨(y 1).val, (y 1).isLt⟩, by
    funext a
    match a with
    | ⟨0, _⟩ => rfl
    | ⟨1, _⟩ => rfl⟩
  rw [Ideal.matmul_plain_apply]
  have z : (constant (F := Ideal) S256x3584 .f32 0x00000000#32 (ix2 r n) : EReal) = 0 := by
    show Ideal.ofBits .f32 0x00000000#32 = 0
    simp
  rw [z, zero_add]
  refine Finset.sum_congr rfl fun K _ => congrArg ((x0 (ix2 r K) : EReal) * ·) ?_
  have hn : n.val < 3584 := n.isLt
  have hK : K.val < 18944 := K.isLt
  rw [shapeCast_apply _ _ _ (ix2 (⟨(3584 * K.val + n.val) / 2048, by omega⟩ : Fin 33152) (⟨(3584 * K.val + n.val) % 2048, Nat.mod_lt _ (by decide)⟩ : Fin 2048)) (by
    rw [Shape.rowMajor_val_two, Shape.rowMajor_val_two]
    show (3584 * K.val + n.val) / 2048 * 2048 + (3584 * K.val + n.val) % 2048 = K.val * 3584 + n.val; omega)]
  have spread (a : FVec Ideal S33152x1 .bf16) : broadcastTo S33152x2048 a broadcasts_S33152x1_S33152x2048
        (ix2 (⟨(3584 * K.val + n.val) / 2048, by omega⟩ : Fin 33152) (⟨(3584 * K.val + n.val) % 2048, Nat.mod_lt _ (by decide)⟩ : Fin 2048))
      = a (ix2 (⟨(3584 * K.val + n.val) / 2048, by omega⟩ : Fin 33152) (0 : Fin 1)) :=
    broadcastTo_apply _ _ _ _ fun b => by
      match b with
      | ⟨0, _⟩ => rfl
      | ⟨1, _⟩ => rfl
  exact congrArg₂ (fun a b : EReal => a + b) (congrArg₂ (fun a b : EReal => a * b) rfl (spread _)) (spread _)

/-- Each window's one block is its whole array. -/
theorem idx (t : Fin cfg0.N) : win0_0.index t = ![0, 0] ∧ win0_1.index t = ![0, 0] ∧ win0_2.index t = ![0, 0] ∧ win0_3.index t = ![0, 0] :=
  (by decide +kernel : ∀ t : Fin grid0.N, win0_0.index t = ![0, 0] ∧ win0_1.index t = ![0, 0] ∧ win0_2.index t = ![0, 0] ∧ win0_3.index t = ![0, 0]) t

/-- The blocks at an index: the input's, -/
theorem blk0 (c : Dev nD) (t : Fin cfg0.N) (r : Fin 256) (K : Fin 18944) :
    (iblk m c 0 t : S256x18944.Idx → EReal) (ix2 r K) = argX m c (ix3 (0 : Fin 1) r K) := by
  have e : (iblk m c 0 t : S256x18944.Idx → EReal) (ix2 r K) = (V m c main_v0 : S256x18944.Idx → EReal) (ix2 r K) := by
    blk_ext [iblk, (idx t).1]
  rw [e, V_v0, shapeCast_apply _ _ _ (ix3 (0 : Fin 1) r K) (by
    rw [Shape.rowMajor_val_three, Shape.rowMajor_val_two]
    show (0 * 256 + r.val) * 18944 + K.val = r.val * 18944 + K.val; omega)]

/-- the codes', -/
theorem blk1 (c : Dev nD) (t : Fin cfg0.N) (b : Fin 33152) (l : Fin 2048) (f : Fin 67895296) (h : b.val * 2048 + l.val = f.val) :
    (iblk m c 1 t : S33152x2048.Idx → BitVec 8) (ix2 b l) = argQ m c (ix1 f) := by
  have e : (iblk m c 1 t : S33152x2048.Idx → BitVec 8) (ix2 b l) = (V m c main_v1 : S33152x2048.Idx → BitVec 8) (ix2 b l) := by
    blk_ext [iblk, (idx t).2.1]
  rw [e, V_v1, shapeCast_apply _ _ _ (ix1 f) (by
    rw [Shape.rowMajor_val_one, Shape.rowMajor_val_two]
    exact h.symm)]

/-- the scales', -/
theorem blk2 (c : Dev nD) (t : Fin cfg0.N) (b : Fin 33152) :
    (iblk m c 2 t : S33152x1.Idx → EReal) (ix2 b (0 : Fin 1)) = argS m c (ix1 b) := by
  have e : (iblk m c 2 t : S33152x1.Idx → EReal) (ix2 b (0 : Fin 1)) = (V m c main_v2 : S33152x1.Idx → EReal) (ix2 b (0 : Fin 1)) := by
    blk_ext [iblk, (idx t).2.2.1]
  rw [e, V_v2, shapeCast_apply _ _ _ (ix1 b) (by
    rw [Shape.rowMajor_val_one, Shape.rowMajor_val_two]
    show b.val = b.val * 1 + 0; omega)]

/-- and the offsets'. -/
theorem blk3 (c : Dev nD) (t : Fin cfg0.N) (b : Fin 33152) :
    (iblk m c 3 t : S33152x1.Idx → EReal) (ix2 b (0 : Fin 1)) = argO m c (ix1 b) := by
  have e : (iblk m c 3 t : S33152x1.Idx → EReal) (ix2 b (0 : Fin 1)) = (V m c main_v3 : S33152x1.Idx → EReal) (ix2 b (0 : Fin 1)) := by
    blk_ext [iblk, (idx t).2.2.2]
  rw [e, V_v3, shapeCast_apply _ _ _ (ix1 b) (by
    rw [Shape.rowMajor_val_one, Shape.rowMajor_val_two]
    show b.val = b.val * 1 + 0; omega)]

/-- The reference's result is the product. -/
theorem result (c : Dev nD) :
    ((dats m 0 c).arrAt 4 cfg0.N : S256x3584.Idx → EReal) = product (argX m c) (argQ m c) (argS m c) (argO m c) := by
  refine (dats m 0 c).arrAt_eq_of_after_last 4 t0_0 (by decide +kernel) _ fun j => ?_
  blk_simp
  rw [after0_4]
  have hj : (j 1).val < 3584 := (j 1).isLt
  refine (out_apply _ _ _ _ j).trans ?_
  unfold product weight
  refine Finset.sum_congr rfl fun K _ => ?_
  rw [blk0, blk2, blk3, blk1 m c t0_0 _ _ (⟨3584 * K.val + (j 1).val, by omega⟩ : Fin 67895296) (by
    show (3584 * K.val + (j 1).val) / 2048 * 2048 + (3584 * K.val + (j 1).val) % 2048 = 3584 * K.val + (j 1).val; omega)]

end Cert.ReferenceValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- Over the extended reals both programs end with the product of the input and the weights. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G4 m c, Cert.KernelIdeal.Value.run m g,
    (θ_run Cert.ReferenceIdeal.defs _ _).mono (fun r h c => ⟨?_, (h c).2⟩) (Cert.ReferenceIdeal.Value.run_blocks m' g')⟩
  obtain ⟨hx, hq, hs, ho⟩ := hargs c
  have ex : Cert.ReferenceValue.argX m' c = Cert.KernelValue.argX m c := hx
  have eq : Cert.ReferenceValue.argQ m' c = Cert.KernelValue.argQ m c := hq
  have es : Cert.ReferenceValue.argS m' c = Cert.KernelValue.argS m c := hs
  have eo : Cert.ReferenceValue.argO m' c = Cert.KernelValue.argO m c := ho
  refine (h c).1.trans ((Cert.ReferenceValue.result m' c).trans ?_)
  rw [ex, eq, es, eo]
  exact (Cert.KernelValue.result m c).symm

/-- The certificate's claims, with the witnesses of the programs' stated facts. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, algebraic⟩

end Cert.Proof

end
